-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x64x64x64 : Shape := ⟨4, ![4, 64, 64, 64]⟩
abbrev S1x33 : Shape := ⟨2, ![1, 33]⟩
abbrev S1 : Shape := ⟨1, ![1]⟩
abbrev S1x1 : Shape := ⟨2, ![1, 1]⟩
abbrev S4x64x4096 : Shape := ⟨3, ![4, 64, 4096]⟩
abbrev S1x64x4096 : Shape := ⟨3, ![1, 64, 4096]⟩
abbrev S64x4096 : Shape := ⟨2, ![64, 4096]⟩
abbrev S64x64 : Shape := ⟨2, ![64, 64]⟩
abbrev S64x1 : Shape := ⟨2, ![64, 1]⟩
abbrev S64x256 : Shape := ⟨2, ![64, 256]⟩
abbrev S1x256 : Shape := ⟨2, ![1, 256]⟩
abbrev S1x64x256 : Shape := ⟨3, ![1, 64, 256]⟩

abbrev nBuf : Space → Nat
  | .hbm => 12
  | .vmem => 10
  | .smem => 0
  | _ => 0

abbrev bufTy : (tb : Table) → Fin (tcTables nBuf tb) → BufTy
  | .hbm, ⟨0, _⟩ => ⟨S4x64x64x64, .f32⟩
  | .hbm, ⟨1, _⟩ => ⟨S4x64x64x64, .f32⟩
  | .hbm, ⟨2, _⟩ => ⟨S1x33, .f32⟩
  | .hbm, ⟨3, _⟩ => ⟨S1, .f32⟩
  | .hbm, ⟨4, _⟩ => ⟨S1x1, .f32⟩
  | .hbm, ⟨5, _⟩ => ⟨S1, .f32⟩
  | .hbm, ⟨6, _⟩ => ⟨S4x64x4096, .f32⟩
  | .hbm, ⟨7, _⟩ => ⟨S4x64x4096, .f32⟩
  | .hbm, ⟨8, _⟩ => ⟨S1x1, .f32⟩
  | .hbm, ⟨9, _⟩ => ⟨S1x1, .f32⟩
  | .hbm, ⟨10, _⟩ => ⟨S4x64x4096, .f32⟩
  | .hbm, ⟨11, _⟩ => ⟨S4x64x64x64, .f32⟩
  | .local _ .vmem, ⟨0, _⟩ => ⟨S1x64x4096, .f32⟩
  | .local _ .vmem, ⟨1, _⟩ => ⟨S1x64x4096, .f32⟩
  | .local _ .vmem, ⟨2, _⟩ => ⟨S1x64x4096, .f32⟩
  | .local _ .vmem, ⟨3, _⟩ => ⟨S1x64x4096, .f32⟩
  | .local _ .vmem, ⟨4, _⟩ => ⟨S1x33, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x64x4096, .f32⟩
  | .local _ .vmem, ⟨9, _⟩ => ⟨S1x64x4096, .f32⟩
  | _, _ => ⟨S4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x33 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4x64x64x64 : Shape := ⟨4, ![4, 64, 64, 64]⟩
abbrev S1x33 : Shape := ⟨2, ![1, 33]⟩
abbrev S1 : Shape := ⟨1, ![1]⟩
abbrev S1x1 : Shape := ⟨2, ![1, 1]⟩
abbrev S4x64x4096 : Shape := ⟨3, ![4, 64, 4096]⟩
abbrev S4x4096x64 : Shape := ⟨3, ![4, 4096, 64]⟩
abbrev S4x64x64 : Shape := ⟨3, ![4, 64, 64]⟩
abbrev S4x64x32 : Shape := ⟨3, ![4, 64, 32]⟩
abbrev S_ : Shape := ⟨0, ![]⟩
abbrev S4x64x32x1 : Shape := ⟨4, ![4, 64, 32, 1]⟩
abbrev S4x64x32x64x64 : Shape := ⟨5, ![4, 64, 32, 64, 64]⟩
abbrev S4x64x1x64x64 : Shape := ⟨5, ![4, 64, 1, 64, 64]⟩
abbrev S4x64x33x64x64 : Shape := ⟨5, ![4, 64, 33, 64, 64]⟩
abbrev S1x4x64x64x64 : Shape := ⟨5, ![1, 4, 64, 64, 64]⟩
abbrev S1x1x1x1 : Shape := ⟨4, ![1, 1, 1, 1]⟩
abbrev S1x1x1x1x1 : Shape := ⟨5, ![1, 1, 1, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x64x64x64, .f32⟩
  | .hbm, ⟨1, _⟩ => ⟨S4x64x64x64, .f32⟩
  | .hbm, ⟨2, _⟩ => ⟨S1x33, .f32⟩
  | .hbm, ⟨3, _⟩ => ⟨S1, .f32⟩
  | .hbm, ⟨4, _⟩ => ⟨S1x1, .f32⟩
  | .hbm, ⟨5, _⟩ => ⟨S1, .f32⟩
  | .hbm, ⟨6, _⟩ => ⟨S4x64x4096, .f32⟩
  | .hbm, ⟨7, _⟩ => ⟨S4x64x4096, .f32⟩
  | .hbm, ⟨8, _⟩ => ⟨S4x4096x64, .f32⟩
  | .hbm, ⟨9, _⟩ => ⟨S4x64x64, .f32⟩
  | .hbm, ⟨10, _⟩ => ⟨S4x64x32, .f32⟩
  | .hbm, ⟨11, _⟩ => ⟨S4x64x32, .i32⟩
  | .hbm, ⟨12, _⟩ => ⟨S_, .i32⟩
  | .hbm, ⟨13, _⟩ => ⟨S4x64x32, .i32⟩
  | .hbm, ⟨14, _⟩ => ⟨S4x64x32, .i1⟩
  | .hbm, ⟨15, _⟩ => ⟨S_, .i32⟩
  | .hbm, ⟨16, _⟩ => ⟨S4x64x32, .i32⟩
  | .hbm, ⟨17, _⟩ => ⟨S4x64x32, .i32⟩
  | .hbm, ⟨18, _⟩ => ⟨S4x64x32, .i32⟩
  | .hbm, ⟨19, _⟩ => ⟨S4x64x32x1, .i32⟩
  | .hbm, ⟨20, _⟩ => ⟨S4x64x32x64x64, .f32⟩
  | .hbm, ⟨21, _⟩ => ⟨S4x64x1x64x64, .f32⟩
  | .hbm, ⟨22, _⟩ => ⟨S4x64x33x64x64, .f32⟩
  | .hbm, ⟨23, _⟩ => ⟨S_, .f32⟩
  | .hbm, ⟨24, _⟩ => ⟨S4x64x64x64, .f32⟩
  | .hbm, ⟨25, _⟩ => ⟨S4x64x1x64x64, .f32⟩
  | .hbm, ⟨26, _⟩ => ⟨S4x64x1x64x64, .f32⟩
  | .hbm, ⟨27, _⟩ => ⟨S4x64x1x64x64, .f32⟩
  | .hbm, ⟨28, _⟩ => ⟨S_, .f32⟩
  | .hbm, ⟨29, _⟩ => ⟨S4x64x1x64x64, .f32⟩
  | .hbm, ⟨30, _⟩ => ⟨S4x64x1x64x64, .f32⟩
  | .hbm, ⟨31, _⟩ => ⟨S_, .f32⟩
  | .hbm, ⟨32, _⟩ => ⟨S4x64x1x64x64, .f32⟩
  | .hbm, ⟨33, _⟩ => ⟨S4x64x1x64x64, .f32⟩
  | .hbm, ⟨34, _⟩ => ⟨S1x4x64x64x64, .f32⟩
  | .hbm, ⟨35, _⟩ => ⟨S4x64x1x64x64, .f32⟩
  | .hbm, ⟨36, _⟩ => ⟨S1x1x1x1, .f32⟩
  | .hbm, ⟨37, _⟩ => ⟨S1x1x1x1x1, .f32⟩
  | .hbm, ⟨38, _⟩ => ⟨S4x64x1x64x64, .f32⟩
  | .hbm, ⟨39, _⟩ => ⟨S4x64x1x64x64, .f32⟩
  | .hbm, ⟨40, _⟩ => ⟨S_, .f32⟩
  | .hbm, ⟨41, _⟩ => ⟨S_, .f32⟩
  | .hbm, ⟨42, _⟩ => ⟨S4x64x1x64x64, .f32⟩
  | .hbm, ⟨43, _⟩ => ⟨S4x64x1x64x64, .i1⟩
  | .hbm, ⟨44, _⟩ => ⟨S_, .f32⟩
  | .hbm, ⟨45, _⟩ => ⟨S4x64x1x64x64, .f32⟩
  | .hbm, ⟨46, _⟩ => ⟨S4x64x1x64x64, .f32⟩
  | .hbm, ⟨47, _⟩ => ⟨S4x64x1x64x64, .f32⟩
  | .hbm, ⟨48, _⟩ => ⟨S1x4x64x64x64, .f32⟩
  | .hbm, ⟨49, _⟩ => ⟨S4x64x1x64x64, .f32⟩
  | .hbm, ⟨50, _⟩ => ⟨S1x1x1x1, .f32⟩
  | .hbm, ⟨51, _⟩ => ⟨S1x1x1x1x1, .f32⟩
  | .hbm, ⟨52, _⟩ => ⟨S4x64x1x64x64, .f32⟩
  | .hbm, ⟨53, _⟩ => ⟨S4x64x1x64x64, .f32⟩
  | .hbm, ⟨54, _⟩ => ⟨S4x64x1x64x64, .f32⟩
  | .hbm, ⟨55, _⟩ => ⟨S4x64x1x64x64, .f32⟩
  | .hbm, ⟨56, _⟩ => ⟨S4x64x64x64, .f32⟩
  | _, _ => ⟨S4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_values : Ref sig .tc := ⟨.hbm, 10, rfl⟩
abbrev main_indices : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.Vectors.lean ====
/- The kernel's block computation written as a few vector functions with counters: the ranking of the correlation's rows,
   the weights and the mask read off the ranks, and one 256-column chunk of the result. The theorems say the stored
   payloads are these functions' values. -/
module

public import proofs.«01_k».proof.Proof.Gen.KernelIdeal.Frame
public import Idealize.ShloMosaic.Lib.Pointwise

@[expose] public section

set_option maxRecDepth 16384

noncomputable section

namespace Cert.KernelIdeal.Vectors

open Idealize.ShloMosaic Idealize.ShloMosaic.TcCoe Idealize.SL.Sem
open Cert.KernelIdeal Cert.KernelIdeal.Gen

variable {F : FTy → Type} [FloatOps F] [Named F]

/-- Column `n` (counted modulo 64) lies in a 64 × 64 block. -/
theorem slices_col (n : ℕ) : S64x64.Slices ![0, n % 64] S64x1 :=
  ⟨rfl, fun a => by
    have := Nat.mod_lt n (by norm_num : 64 > 0)
    match a with
    | ⟨0, _⟩ => exact Nat.le_refl 64
    | ⟨1, _⟩ => show n % 64 + 1 ≤ 64; omega⟩

/-- Row `n` (counted modulo 64) of column chunk `k` (counted modulo 16) lies in a 64 × 4096 block. -/
theorem slices_row (n k : ℕ) : S64x4096.Slices ![n % 64, 256 * (k % 16)] S1x256 :=
  ⟨rfl, fun a => by
    have := Nat.mod_lt n (by norm_num : 64 > 0)
    have := Nat.mod_lt k (by norm_num : 16 > 0)
    match a with
    | ⟨0, _⟩ => show n % 64 + 1 ≤ 64; omega
    | ⟨1, _⟩ => show 256 * (k % 16) + 256 ≤ 4096; omega⟩

/-- Column chunk `k` (counted modulo 16) lies in a 64 × 4096 block. -/
theorem slices_chunk (k : ℕ) : S64x4096.Slices ![0, 256 * (k % 16)] S64x256 :=
  ⟨rfl, fun a => by
    have := Nat.mod_lt k (by norm_num : 16 > 0)
    match a with
    | ⟨0, _⟩ => exact Nat.le_refl 64
    | ⟨1, _⟩ => show 256 * (k % 16) + 256 ≤ 4096; omega⟩

/-- Entry `n` (counted modulo 33) lies in the row of 33 weights. -/
theorem slices_weight (n : ℕ) : S1x33.Slices ![0, n % 33] S1x1 :=
  ⟨rfl, fun a => by
    have := Nat.mod_lt n (by norm_num : 33 > 0)
    match a with
    | ⟨0, _⟩ => exact Nat.le_refl 1
    | ⟨1, _⟩ => show n % 33 + 1 ≤ 33; omega⟩

/-- The 64 × 64 splat of a scalar. -/
abbrev splat (b : BitVec 32) : FVec F S64x64 .f32 := broadcast S64x64 (Scalar.ofBits .f32 b)

/-- Column `n` of a 64 × 64 block, repeated along the rows. -/
def column (x : FVec F S64x64 .f32) (n : ℕ) : FVec F S64x64 .f32 :=
  broadcastTo S64x64 (extractStridedSlice S64x1 ![0, n % 64] x (slices_col n)) broadcasts_S64x1_S64x64

/-- One where column `n` comes ahead of the entry's own column, zero elsewhere. -/
def step (x : FVec F S64x64 .f32) (n : ℕ) : FVec F S64x64 .f32 :=
  select (ori (cmpf .ogt (column x n) x)
      (andi (cmpf .oeq (column x n) x) (cmpi .sgt (iota .tc S64x64 32 [1] iota_S64x64_d1_w32) (broadcast S64x64 (BitVec.ofNat 32 n)))))
    (splat 0x3F800000#32) (splat 0x00000000#32)

/-- The first `n` steps over the columns `j`, `4 + j`, `8 + j`, … added up. -/
def part (x : FVec F S64x64 .f32) (j : ℕ) : ℕ → FVec F S64x64 .f32
  | 0 => splat 0x00000000#32
  | n + 1 => addf (part x j n) (step x (4 * n + j))

/-- The rank of every entry in its row. -/
def rank (x : FVec F S64x64 .f32) : FVec F S64x64 .f32 :=
  addf (addf (part x 0 16) (part x 1 16)) (addf (part x 2 16) (part x 3 16))

/-- The pattern of the whole number `n` as a single-precision word, `n` below 32. -/
def wordOf (n : ℕ) : BitVec 32 :=
  ([0x00000000#32, 0x3F800000#32, 0x40000000#32, 0x40400000#32, 0x40800000#32, 0x40A00000#32, 0x40C00000#32, 0x40E00000#32,
    0x41000000#32, 0x41100000#32, 0x41200000#32, 0x41300000#32, 0x41400000#32, 0x41500000#32, 0x41600000#32, 0x41700000#32,
    0x41800000#32, 0x41880000#32, 0x41900000#32, 0x41980000#32, 0x41A00000#32, 0x41A80000#32, 0x41B00000#32, 0x41B80000#32,
    0x41C00000#32, 0x41C80000#32, 0x41D00000#32, 0x41D80000#32, 0x41E00000#32, 0x41E80000#32, 0x41F00000#32, 0x41F80000#32]
      : List (BitVec 32)).getD n 0#32

/-- The weights given to the entries ranked below `n`, by rank; zero elsewhere. -/
def weights (w : Vec F S1x33 .f32) (r : FVec F S64x64 .f32) : ℕ → FVec F S64x64 .f32
  | 0 => splat 0x00000000#32
  | n + 1 => addf (weights w r n)
      (select (cmpf .oeq r (splat (wordOf n)))
        (broadcast S64x64 (extractAt ![0, 0] (extractStridedSlice S1x1 ![0, (n + 1) % 33] w (slices_weight (n + 1))) inpos_S1x1_p0_0))
        (splat 0x00000000#32))

/-- The mask's value. -/
abbrev mask : F .f32 := Named.named κ "mask" 0xF149F2CA#32

/-- Zero at the entries ranked below 32, the mask elsewhere. -/
def bias (r : FVec F S64x64 .f32) : FVec F S64x64 .f32 :=
  select (cmpf .olt r (splat 0x42000000#32)) (splat 0x00000000#32) (broadcast S64x64 mask)

/-- The weighted sum of the rows of `h`. -/
def mixed (a : FVec F S64x64 .f32) (h : FVec F S64x4096 .f32) : FVec F S64x4096 .f32 :=
  matmul dot_S64x64_S64x4096_S64x4096_1_0_0_1_n_n none (truncf .bf16 a bitsLt_bf16_f32) (truncf .bf16 h bitsLt_bf16_f32)
    (constant S64x4096 .f32 0x00000000#32)

/-- Row `n` of chunk `k` of `h`, under the bias of column `n`. -/
def cand (h : FVec F S64x4096 .f32) (b : FVec F S64x64 .f32) (k n : ℕ) : FVec F S64x256 .f32 :=
  addf (broadcastTo S64x256 (extractStridedSlice S1x256 ![n % 64, 256 * (k % 16)] h (slices_row n k)) broadcasts_S1x256_S64x256)
    (broadcastTo S64x256 (extractStridedSlice S64x1 ![0, n % 64] b (slices_col n)) broadcasts_S64x1_S64x256)

/-- The greatest of the mask and the first `n` candidates among the rows `j`, `4 + j`, `8 + j`, …. -/
def chain (h : FVec F S64x4096 .f32) (b : FVec F S64x64 .f32) (k j : ℕ) : ℕ → FVec F S64x256 .f32
  | 0 => broadcast S64x256 mask
  | n + 1 => maximumf (chain h b k j n) (cand h b k (4 * n + j))

/-- The greatest candidate over all the rows. -/
def peak (h : FVec F S64x4096 .f32) (b : FVec F S64x64 .f32) (k : ℕ) : FVec F S64x256 .f32 :=
  maximumf (maximumf (chain h b k 0 16) (chain h b k 1 16)) (maximumf (chain h b k 2 16) (chain h b k 3 16))

/-- The first convolution of chunk `k`, before its activation. -/
def conv (l m : FVec F S64x4096 .f32) (w0 b1 : F .f32) (k : ℕ) : FVec F S64x256 .f32 :=
  addf (addf (mulf (broadcast S64x256 w0)
      (extf .f32 (truncf .bf16 (extractStridedSlice S64x256 ![0, 256 * (k % 16)] l (slices_chunk k)) bitsLt_bf16_f32) bitsLt_bf16_f32))
      (extractStridedSlice S64x256 ![0, 256 * (k % 16)] m (slices_chunk k)))
    (broadcast S64x256 b1)

/-- Chunk `k` of the result, from the convolution `y` and the greatest candidate `p`. -/
def tail (y p : FVec F S64x256 .f32) (w2 b2 : F .f32) : FVec F S1x64x256 .f32 :=
  shapeCast S1x64x256
    (mulf (addf (mulf (broadcast S64x256 w2)
          (select (cmpf .oge y (broadcast S64x256 (Scalar.ofBits .f32 0x00000000#32))) y
            (mulf (broadcast S64x256 (Scalar.ofBits .f32 0x3DCCCCCD#32)) y)))
        (broadcast S64x256 b2))
      (addf (broadcast S64x256 (Scalar.ofBits .f32 0x3F800000#32)) (logistic p)))
    shapeCasts_S64x256_S1x64x256

/-- Chunk `k` of the result. -/
def chunk (h l m : FVec F S64x4096 .f32) (b : FVec F S64x64 .f32) (w0 b1 w2 b2 : F .f32) (k : ℕ) : FVec F S1x64x256 .f32 :=
  tail (conv l m w0 b1 k) (peak h b k) w2 b2

section values
variable (x0 x1 : Vec F S1x64x4096 .f32) (x2 : Vec F S1x33 .f32) (x3 x4 x5 : Vec F S1x1 .f32)

/-- The ranks the body computes. -/
theorem rank_eq : k0_pay732 x0 x1 x2 x3 x4 x5 = rank (k0_pay725 x0 x1 x2 x3 x4 x5) := rfl

/-- The mask the body computes. -/
theorem bias_eq : k0_pay733 x0 x1 x2 x3 x4 x5 = bias (rank (k0_pay725 x0 x1 x2 x3 x4 x5)) := rfl

/-- The weighted sum the body computes. -/
theorem mixed_eq : k0_pay734 x0 x1 x2 x3 x4 x5
    = mixed (weights (View.ld x2 r0_1) (rank (k0_pay725 x0 x1 x2 x3 x4 x5)) 32) (k0_pay723 x0 x1 x2 x3 x4 x5) := rfl

end values

/-- Chunk `k` (counted modulo 16) lies in the output block. -/
theorem inb_chunk (k : ℕ) (a : Fin S1x64x4096.rank) :
    (![0, 0, 256 * (k % 16)] : Fin 3 → ℕ) a + S1x64x256.size a ≤ S1x64x4096.size a := by
  have := Nat.mod_lt k (by norm_num : 16 > 0)
  match a with
  | ⟨0, _⟩ => exact Nat.le_refl 1
  | ⟨1, _⟩ => exact Nat.le_refl 64
  | ⟨2, _⟩ => show 256 * (k % 16) + 256 ≤ 4096; omega

/-- Where chunk `k` is stored. -/
abbrev rect (k : ℕ) : Rect S1x64x4096 :=
  Rect.unit (s := S1x64x4096) ![0, 0, 256 * (k % 16)] S1x64x256.size (inb_chunk k)

/-- The stores of the first `n` chunks, the last first. -/
def pieces (f : ℕ → FVec F S1x64x256 .f32) : ℕ → List (View.Piece (Elt F) S1x64x4096 .f32)
  | 0 => []
  | k + 1 => ⟨rect k, f k⟩ :: pieces f k

section values
variable (x0 x1 : Vec F S1x64x4096 .f32) (x2 : Vec F S1x33 .f32) (x3 x4 x5 : Vec F S1x1 .f32)

/-- The output block is its sixteen chunks. -/
theorem out_eq : out0_6 x0 x1 x2 x3 x4 x5
    = View.canon (pieces (chunk (k0_pay723 x0 x1 x2 x3 x4 x5) (k0_pay724 x0 x1 x2 x3 x4 x5) (k0_pay734 x0 x1 x2 x3 x4 x5)
        (k0_pay733 x0 x1 x2 x3 x4 x5) (k0_pay130 (View.ld x2 r0_1)) (k0_pay4 (View.ld x3 r0_2)) (k0_pay5 (View.ld x4 r0_2))
        (k0_pay6 (View.ld x5 r0_2))) 16) := rfl

end values

end Cert.KernelIdeal.Vectors

end
-- ==== Proof.Ranking.lean ====
/- The `k` greatest entries of a row, two ways: by sorting the row's positions, and by counting for each position
   how many positions come ahead of it. -/
module

public import Mathlib.Data.EReal.Operations
public import Mathlib.Algebra.BigOperators.Fin
public import Idealize.ShloMosaic.Lib.SortFacts

@[expose] public section

noncomputable section

namespace Cert.Ranking

open Idealize.ShloMosaic

variable {n : ℕ} (f : Fin n → EReal)

/-- Position `a` comes ahead of position `b`: its entry is greater, or equal at a lower position. -/
def Ahead (a b : Fin n) : Prop := f b < f a ∨ (f a = f b ∧ a < b)

/-- Coming ahead is transitive. -/
theorem Ahead.trans {a b c : Fin n} (hab : Ahead f a b) (hbc : Ahead f b c) : Ahead f a c := by
  rcases hab with h | ⟨e, h⟩ <;> rcases hbc with h' | ⟨e', h'⟩
  · exact Or.inl (h'.trans h)
  · exact Or.inl (e' ▸ h)
  · exact Or.inl (e ▸ h')
  · exact Or.inr ⟨e.trans e', h.trans h'⟩

/-- No position comes ahead of itself. -/
theorem Ahead.irrefl (a : Fin n) : ¬ Ahead f a a := by
  rintro (h | ⟨-, h⟩) <;> exact lt_irrefl _ h

open Classical in
/-- How many positions come ahead of position `c`. -/
def place (c : Fin n) : ℕ := (Finset.univ.filter fun a => Ahead f a c).card

/-- "Greater first", the order in which the positions are sorted. -/
def greater (a b : Fin n) : Bool := decide (f b < f a)

/-- Inserting a position that is below all the others keeps a list ordered by `Ahead`. -/
theorem pairwise_insert (a : Fin n) (l : List (Fin n)) (hl : l.Pairwise (Ahead f)) (ha : ∀ b ∈ l, a < b) :
    (insertBefore (greater f) a l).Pairwise (Ahead f) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem b hc)⟩
      rcases List.mem_cons.mp ((perm_insertBefore _ a l).mem_iff.mp hc) with rfl | hc'
      · exact Or.inl (of_decide_eq_true h)
      · exact hl.1 c hc'
    · rename_i h
      have hba : ¬ f a < f b := fun hlt => h (decide_eq_true hlt)
      have hab : Ahead f a b := by
        rcases lt_or_eq_of_le (not_lt.mp hba) with h' | h'
        · exact Or.inl h'
        · exact Or.inr ⟨h'.symm, ha b List.mem_cons_self⟩
      refine List.pairwise_cons.mpr ⟨fun c hc => ?_, List.pairwise_cons.mpr hl⟩
      rcases List.mem_cons.mp hc with rfl | hc'
      · exact hab
      · exact hab.trans f (hl.1 c hc')

/-- The stable sort of an increasing list of positions is ordered by `Ahead`. -/
theorem pairwise_sort (l : List (Fin n)) (hl : l.Pairwise (· < ·)) : (stableSort (greater f) l).Pairwise (Ahead f) := by
  induction l with
  | nil => exact List.Pairwise.nil
  | cons a l ih =>
    rw [List.pairwise_cons] at hl
    unfold stableSort
    exact pairwise_insert f a _ (ih hl.2) fun b hb => hl.1 b ((perm_stableSort _ l).mem_iff.mp hb)

/-- The position a stable descending sort of the row puts at rank `k`. -/
def pick (k : Fin n) : Fin n := sortedFrom (greater f) k

/-- The sorted positions are ordered by `Ahead`. -/
theorem pick_ahead {i j : Fin n} (hij : i < j) : Ahead f (pick f i) (pick f j) := by
  have hp : ∀ a b : Fin (sortPositions n (greater f)).length, a < b →
      Ahead f ((sortPositions n (greater f)).get a) ((sortPositions n (greater f)).get b) :=
    List.pairwise_iff_get.mp (pairwise_sort f (List.finRange n) (List.pairwise_lt_finRange n))
  unfold pick sortedFrom
  exact hp _ _ (by simp only [Fin.lt_def, Fin.val_cast]; exact hij)

/-- One sorted position comes ahead of another exactly when its rank is lower. -/
theorem pick_ahead_iff (i j : Fin n) : Ahead f (pick f i) (pick f j) ↔ i < j := by
  refine ⟨fun h => ?_, pick_ahead f⟩
  rcases lt_trichotomy i j with h' | h' | h'
  · exact h'
  · subst h'; exact absurd h (Ahead.irrefl f _)
  · exact absurd (h.trans f (pick_ahead f h')) (Ahead.irrefl f _)

/-- Ranks and positions correspond one to one. -/
def pickEquiv : Fin n ≃ Fin n :=
  Equiv.ofBijective (pick f) ⟨sortedFrom_injective _, sortedFrom_surjective _⟩

/-- The position at rank `k` has exactly `k` positions ahead of it. -/
theorem place_pick (k : Fin n) : place f (pick f k) = k := by
  classical
  have h : (Finset.univ.filter fun a => Ahead f a (pick f k)) = (Finset.Iio k).map (pickEquiv f).toEmbedding := by
    ext a
    obtain ⟨i, rfl⟩ := (pickEquiv f).surjective a
    rw [Finset.mem_map_equiv, Equiv.symm_apply_apply, Finset.mem_Iio, Finset.mem_filter]
    exact ⟨fun h => (pick_ahead_iff f i k).mp h.2, fun h => ⟨Finset.mem_univ _, (pick_ahead_iff f i k).mpr h⟩⟩
  unfold place
  refine Eq.trans ?_ ((congrArg Finset.card h).trans ((Finset.card_map _).trans (Fin.card_Iio k)))
  congr!

/-- Every position has fewer positions ahead of it than the row is long. -/
theorem place_lt (c : Fin n) : place f c < n := by
  obtain ⟨k, rfl⟩ := (pickEquiv f).surjective c
  exact (place_pick f k).trans_lt k.isLt

section top
variable {k : ℕ} (hk : k ≤ n)

/-- Weighing the `k` greatest positions by rank is weighing every position by the weight of its place, or by zero past `k`. -/
theorem sum_top (w : Fin k → EReal) (h : Fin n → EReal) :
    ∑ r : Fin k, w r * h (pick f (r.castLE hk))
      = ∑ c : Fin n, (if hc : place f c < k then w ⟨place f c, hc⟩ else 0) * h c := by
  obtain ⟨d, rfl⟩ := Nat.exists_eq_add_of_le hk
  rw [← (pickEquiv f).sum_comp, Fin.sum_univ_add]
  have e (r : Fin (k + d)) : pickEquiv f r = pick f r := rfl
  simp only [e, place_pick, Fin.val_castAdd, Fin.val_natAdd, Fin.is_lt, dite_true, Fin.eta]
  rw [Finset.sum_eq_zero (s := Finset.univ (α := Fin d)), add_zero]
  · rfl
  · intro i _
    rw [dif_neg (by omega), zero_mul]

/-- The greatest of `h` over the `k` greatest positions is its greatest over all positions, those past `k` masked by `⊥`. -/
theorem sup_top (h : Fin n → EReal) :
    Finset.univ.sup (fun r : Fin k => h (pick f (r.castLE hk)))
      = Finset.univ.sup (fun c : Fin n => h c + if place f c < k then 0 else ⊥) := by
  refine le_antisymm (Finset.sup_le fun r _ => ?_) (Finset.sup_le fun c _ => ?_)
  · refine le_trans (le_of_eq ?_) (Finset.le_sup (Finset.mem_univ (pick f (r.castLE hk))))
    simp only [place_pick, Fin.val_castLE, Fin.is_lt, if_true, add_zero]
  · by_cases hc : place f c < k
    · rw [if_pos hc, add_zero]
      obtain ⟨i, rfl⟩ := (pickEquiv f).surjective c
      have hi : (i : ℕ) < k := (place_pick f i) ▸ hc
      exact Finset.le_sup (f := fun r : Fin k => h (pick f (r.castLE hk))) (Finset.mem_univ (⟨i, hi⟩ : Fin k))
    · rw [if_neg hc, EReal.add_bot]
      exact bot_le

end top

/-- A fold by `max` from `⊥` is the supremum. -/
theorem fold_max_eq_sup {ι : Type} (s : Finset ι) (g : ι → EReal) : s.fold max ⊥ g = s.sup g := rfl

/-- Counting by adding a one for each position ahead gives the place. -/
theorem sum_ahead [∀ a c, Decidable (Ahead f a c)] (c : Fin n) :
    ∑ a : Fin n, (if Ahead f a c then (1 : EReal) else 0) = (place f c : EReal) := by
  classical
  rw [Finset.sum_boole]
  unfold place
  congr 2
  ext a
  simp

/-- Adding up, over the ranks below `k`, the weight at the rank that equals `p` gives the weight at `p`, or zero past `k`. -/
theorem sum_match (k p : ℕ) (w : Fin k → EReal) :
    ∑ r : Fin k, (if p = (r : ℕ) then w r else 0) = if hp : p < k then w ⟨p, hp⟩ else 0 := by
  by_cases hp : p < k
  · rw [dif_pos hp, Finset.sum_eq_single (⟨p, hp⟩ : Fin k)]
    · simp
    · intro r _ hr
      rw [if_neg fun e => hr (Fin.ext e.symm)]
    · exact fun h => absurd (Finset.mem_univ _) h
  · rw [dif_neg hp]
    exact Finset.sum_eq_zero fun r _ => if_neg (by omega)

end Cert.Ranking

end
-- ==== Proof.Cell.lean ====
/- One entry of the result as a formula over the extended reals, in two forms, and their equality. -/
module

public import proofs.«01_k».proof.Proof.Ranking
public import Idealize.ShloMosaic.Lib.Pointwise
public import Idealize.ShloMosaic.Lib.IdealHost

@[expose] public section

noncomputable section

namespace Cert.Cell

open Idealize.ShloMosaic Cert.Ranking

/-- The leaky rectifier. -/
def leaky (y : EReal) : EReal := if 0 ≤ y then y else Ideal.ofBits .f32 0x3DCCCCCD#32 * y

variable (w : Fin 33 → EReal) (b1 w2 b2 : EReal) (L H : Fin 64 → Fin 4096 → EReal)

/-- The correlation of row `o` of `L` with every row of `H`. -/
def corr (o : Fin 64) : Fin 64 → EReal := fun c => ∑ p, L o p * H c p

/-- The weight of row `c` for row `o`: by its place in the ranking, zero from place 32 on. -/
def share (o c : Fin 64) : EReal :=
  if hc : place (corr L H o) c < 32 then w (Fin.succ (⟨place (corr L H o) c, hc⟩ : Fin 32)) else 0

/-- An entry, with every row of `H` weighted and masked by its place. -/
def ranked (o : Fin 64) (p : Fin 4096) : EReal :=
  (w2 * leaky (w 0 * L o p + ∑ c, share w L H o c * H c p + b1) + b2)
    * (1 + Ideal.logistic (Finset.univ.sup fun c => H c p + if place (corr L H o) c < 32 then 0 else ⊥))

/-- The row of `H` picked for row `o` at rank `r`. -/
def top (o : Fin 64) (r : Fin 32) : Fin 64 := pick (corr L H o) (r.castLE (by omega))

/-- An entry, from the 32 picked rows of `H`. -/
def picked (o : Fin 64) (p : Fin 4096) : EReal :=
  (w2 * leaky (w 0 * L o p + ∑ r : Fin 32, w r.succ * H (top L H o r) p + b1) + b2)
    + Ideal.logistic (Finset.univ.sup fun r : Fin 32 => H (top L H o r) p)
      * (w2 * leaky (w 0 * L o p + ∑ r : Fin 32, w r.succ * H (top L H o r) p + b1) + b2)

/-- The logistic function is nowhere negative. -/
theorem logistic_nonneg (x : EReal) : 0 ≤ Ideal.logistic x := by
  induction x with
  | bot => simp
  | coe r => rw [Ideal.logistic_coe]; exact_mod_cast (by positivity : (0 : ℝ) ≤ (1 + Real.exp (-r))⁻¹)
  | top => simp

/-- The two forms are equal. -/
theorem ranked_eq_picked (o : Fin 64) (p : Fin 4096) : ranked w b1 w2 b2 L H o p = picked w b1 w2 b2 L H o p := by
  unfold ranked picked top share
  rw [sum_top (corr L H o) (k := 32) (by omega) (fun r => w r.succ) (fun c => H c p),
    sup_top (corr L H o) (k := 32) (by omega) (fun c => H c p), mul_comm,
    EReal.right_distrib_of_nonneg zero_le_one (logistic_nonneg _), one_mul]

end Cert.Cell

end
-- ==== Proof.Values.lean ====
/- The kernel's vector functions read at an entry, over the extended reals. -/
module

public import proofs.«01_k».proof.Proof.Vectors
public import proofs.«01_k».proof.Proof.Cell
public import Idealize.ShloMosaic.Lib.Pointwise
public import Idealize.ShloMosaic.Lib.IdealHost

@[expose] public section

set_option maxRecDepth 16384

noncomputable section

namespace Cert.KernelIdeal.Vectors

open Idealize.ShloMosaic Idealize.ShloMosaic.TcCoe Idealize.SL.Sem
open Cert.KernelIdeal Cert.KernelIdeal.Gen Cert.Ranking Cert.Cell

/-- The word of the whole number `n` denotes `n`. -/
theorem ofBits_wordOf (n : ℕ) (hn : n < 32) : Ideal.ofBits .f32 (wordOf n) = ((n : ℝ) : EReal) := by
  interval_cases n <;> simp [wordOf, Ideal.ofBits, Ideal.ieee, -EReal.coe_mul] <;> norm_num

/-- The word `0x42000000` denotes 32. -/
theorem ofBits_32 : Ideal.ofBits .f32 0x42000000#32 = ((32 : ℝ) : EReal) := by
  simp [Ideal.ofBits, Ideal.ieee, -EReal.coe_mul]; norm_num

/-- The mask is `⊥`. -/
theorem mask_eq : (mask : Ideal .f32) = (⊥ : EReal) := IdealRules.named_const.ideal_named_scalar _ _ _ _ rfl

/-- Four sums, each over every fourth index, add up to the sum over all. -/
theorem sum_four (g : ℕ → EReal) :
    (∑ i ∈ Finset.range 16, g (4 * i + 0) + ∑ i ∈ Finset.range 16, g (4 * i + 1))
        + (∑ i ∈ Finset.range 16, g (4 * i + 2) + ∑ i ∈ Finset.range 16, g (4 * i + 3))
      = ∑ c : Fin 64, g c := by
  rw [Fin.sum_univ_tiles 16 4 rfl fun c : Fin 64 => g c]
  simp only [Fin.sum_univ_four, Finset.sum_add_distrib, Finset.sum_range]
  simp only [Fin.val_zero, Fin.val_one, Fin.val_two, mul_comm _ 4, add_assoc]
  rfl

/-- Four suprema, each over every fourth index, have the supremum over all as their greatest. -/
theorem sup_four (g : ℕ → EReal) :
    max (max ((Finset.range 16).sup fun i => g (4 * i + 0)) ((Finset.range 16).sup fun i => g (4 * i + 1)))
        (max ((Finset.range 16).sup fun i => g (4 * i + 2)) ((Finset.range 16).sup fun i => g (4 * i + 3)))
      = Finset.univ.sup fun c : Fin 64 => g c := by
  have up (j : ℕ) (hj : j < 4) : ((Finset.range 16).sup fun i => g (4 * i + j)) ≤ Finset.univ.sup fun c : Fin 64 => g c :=
    Finset.sup_le fun i hi => by
      have := Finset.mem_range.mp hi
      exact Finset.le_sup (f := fun c : Fin 64 => g c) (Finset.mem_univ ⟨4 * i + j, by omega⟩)
  have dn (j : ℕ) (c : Fin 64) (hc : c.val % 4 = j) : g c ≤ (Finset.range 16).sup fun i => g (4 * i + j) := by
    have e : c.val = 4 * (c.val / 4) + j := by omega
    have := Finset.le_sup (f := fun i => g (4 * i + j)) (Finset.mem_range.mpr (by omega : c.val / 4 < 16))
    simpa only [← e] using this
  refine le_antisymm (max_le (max_le (up 0 (by omega)) (up 1 (by omega))) (max_le (up 2 (by omega)) (up 3 (by omega))))
    (Finset.sup_le fun c _ => ?_)
  have h4 : c.val % 4 = 0 ∨ c.val % 4 = 1 ∨ c.val % 4 = 2 ∨ c.val % 4 = 3 := by omega
  rcases h4 with h | h | h | h
  · exact le_max_of_le_left (le_max_of_le_left (dn _ c h))
  · exact le_max_of_le_left (le_max_of_le_right (dn _ c h))
  · exact le_max_of_le_right (le_max_of_le_left (dn _ c h))
  · exact le_max_of_le_right (le_max_of_le_right (dn _ c h))

section ranks
variable (x : FVec Ideal S64x64 .f32)

/-- Row `o` of a 64 × 64 block. -/
abbrev row (o : Fin 64) : Fin 64 → EReal := fun c => x (ix2 o c)

/-- A column at an entry. -/
theorem column_at (n : ℕ) (o c : Fin 64) : column x n (ix2 o c) = x (ix2 o (Fin.ofNat 64 n)) := by
  pointwise [column]
  rfl

/-- Two 32-bit words of small numbers compare as the numbers. -/
theorem sgt_ofNat (a b : ℕ) (ha : a < 64) (hb : b < 64) :
    IntOp.cmpi CmpIPredicate.sgt (BitVec.ofNat 32 a) (BitVec.ofNat 32 b) = BitVec.ofBool (decide (b < a)) := by
  have ea : (BitVec.ofNat 32 a).toInt = a := by rw [BitVec.toInt_eq_toNat_of_lt] <;> simp <;> omega
  have eb : (BitVec.ofNat 32 b).toInt = b := by rw [BitVec.toInt_eq_toNat_of_lt] <;> simp <;> omega
  simp [IntOp.cmpi, BitVec.slt, ea, eb]

open Classical in
/-- A step at an entry. -/
theorem step_at (n : ℕ) (hn : n < 64) (o c : Fin 64) :
    step x n (ix2 o c) = if Ahead (row x o) (Fin.ofNat 64 n) c then (1 : EReal) else 0 := by
  pointwise [step, column_at x n]
  rw [sgt_ofNat _ _ c.isLt hn]
  have e : n < c.val ↔ Fin.ofNat 64 n < c := by
    rw [Fin.lt_def, Fin.val_ofNat, Nat.mod_eq_of_lt hn]
  simp only [e, Ahead, row]
  generalize Fin.ofNat 64 n = a
  by_cases h1 : x (ix2 o c) < x (ix2 o a) <;> by_cases h2 : x (ix2 o a) = x (ix2 o c) <;> by_cases h3 : a < c <;>
    simp [h1, h2, h3, Scalar.select, IntOp.ori, IntOp.andi]

open Classical in
/-- A part of the rank at an entry. -/
theorem part_at (j n : ℕ) (hj : j < 4) (hn : n ≤ 16) (o c : Fin 64) :
    part x j n (ix2 o c)
      = ∑ i ∈ Finset.range n, if Ahead (row x o) (Fin.ofNat 64 (4 * i + j)) c then (1 : EReal) else 0 := by
  induction n with
  | zero => pointwise [part]; simp
  | succ n ih =>
    rw [Finset.sum_range_succ, ← ih (by omega), ← step_at x (4 * n + j) (by omega) o c]
    rfl

/-- The rank at an entry is the entry's place in its row. -/
theorem rank_at (o c : Fin 64) : rank x (ix2 o c) = ((place (row x o) c : ℝ) : EReal) := by
  classical
  show (part x 0 16 (ix2 o c) + part x 1 16 (ix2 o c)) + (part x 2 16 (ix2 o c) + part x 3 16 (ix2 o c)) = _
  rw [part_at x 0 16 (by omega) le_rfl, part_at x 1 16 (by omega) le_rfl, part_at x 2 16 (by omega) le_rfl,
    part_at x 3 16 (by omega) le_rfl,
    sum_four fun i => if Ahead (row x o) (Fin.ofNat 64 i) c then (1 : EReal) else 0]
  simp only [Fin.ofNat_val_eq_self]
  rw [sum_ahead]
  simp

/-- The bias at an entry: zero where the place is below 32, `⊥` elsewhere. -/
theorem bias_at (o c : Fin 64) : bias (rank x) (ix2 o c) = if place (row x o) c < 32 then (0 : EReal) else ⊥ := by
  pointwise [bias, rank_at x, mask_eq, ofBits_32]
  norm_cast

/-- The weights at an entry, summed over the ranks. -/
theorem weights_at (w : Vec Ideal S1x33 .f32) (r : FVec Ideal S64x64 .f32) (n : ℕ) (o c : Fin 64) :
    weights w r n (ix2 o c)
      = ∑ i ∈ Finset.range n, if r (ix2 o c) = Ideal.ofBits .f32 (wordOf i) then w (ix2 0 (Fin.ofNat 33 (i + 1))) else 0 := by
  induction n with
  | zero => pointwise [weights]; simp
  | succ n ih =>
    rw [Finset.sum_range_succ, ← ih]
    pointwise [weights]
    rfl

/-- The weights at an entry: the weight of its place below 32, zero elsewhere. -/
theorem weights_rank_at (w : Vec Ideal S1x33 .f32) (o c : Fin 64) :
    weights w (rank x) 32 (ix2 o c)
      = if hc : place (row x o) c < 32 then w (ix2 0 (Fin.succ (⟨place (row x o) c, hc⟩ : Fin 32))) else (0 : EReal) := by
  rw [weights_at, Finset.sum_range, ← sum_match 32 (place (row x o) c) fun r : Fin 32 => w (ix2 0 r.succ)]
  refine Finset.sum_congr rfl fun r _ => ?_
  rw [rank_at, ofBits_wordOf _ r.isLt]
  have e : Fin.ofNat 33 (r.val + 1) = r.succ := Fin.ext (Nat.mod_eq_of_lt (by have := r.isLt; omega))
  rw [e]
  congr 1
  norm_cast

end ranks

section chunks
variable (h l m : FVec Ideal S64x4096 .f32) (a b : FVec Ideal S64x64 .f32)

/-- Column `q` of chunk `k`. -/
def spot (k : ℕ) (q : Fin 256) : Fin 4096 := ⟨256 * (k % 16) + q.val, by omega⟩

/-- A candidate at an entry. -/
theorem cand_at (k n : ℕ) (o : Fin 64) (q : Fin 256) :
    cand h b k n (ix2 o q) = h (ix2 (Fin.ofNat 64 n) (spot k q)) + b (ix2 o (Fin.ofNat 64 n)) := by
  pointwise [cand]
  rfl

/-- A chain at an entry. -/
theorem chain_at (k j n : ℕ) (o : Fin 64) (q : Fin 256) :
    chain h b k j n (ix2 o q) = (Finset.range n).sup fun i =>
      h (ix2 (Fin.ofNat 64 (4 * i + j)) (spot k q)) + b (ix2 o (Fin.ofNat 64 (4 * i + j))) := by
  induction n with
  | zero => exact mask_eq
  | succ n ih =>
    rw [Finset.range_add_one, Finset.sup_insert, sup_comm, ← ih, ← cand_at h b k (4 * n + j)]
    rfl

/-- The greatest candidate at an entry. -/
theorem peak_at (k : ℕ) (o : Fin 64) (q : Fin 256) :
    peak h b k (ix2 o q) = Finset.univ.sup fun c : Fin 64 => h (ix2 c (spot k q)) + b (ix2 o c) := by
  show max (max (chain h b k 0 16 (ix2 o q)) (chain h b k 1 16 (ix2 o q)))
    (max (chain h b k 2 16 (ix2 o q)) (chain h b k 3 16 (ix2 o q))) = _
  rw [chain_at, chain_at, chain_at, chain_at,
    sup_four fun i => h (ix2 (Fin.ofNat 64 i) (spot k q)) + b (ix2 o (Fin.ofNat 64 i))]
  simp only [Fin.ofNat_val_eq_self]

/-- The weighted sum at an entry. -/
theorem mixed_at (o : Fin 64) (p : Fin 4096) : mixed a h (ix2 o p) = ∑ c : Fin 64, a (ix2 o c) * h (ix2 c p) := by
  pointwise [mixed]

/-- A chunk at an entry. -/
theorem chunk_at (w0 b1 w2 b2 : Ideal .f32) (k : ℕ) (o : Fin 64) (q : Fin 256) :
    chunk h l m b w0 b1 w2 b2 k (ix3 0 o q)
      = (w2 * leaky (w0 * l (ix2 o (spot k q)) + m (ix2 o (spot k q)) + b1) + b2)
        * (1 + Ideal.logistic (Finset.univ.sup fun c : Fin 64 => h (ix2 c (spot k q)) + b (ix2 o c))) := by
  pointwise [chunk, tail, conv, peak_at h b k]
  rfl

end chunks

end Cert.KernelIdeal.Vectors

end
-- ==== Proof.Block.lean ====
/- One grid point's output block as a formula in its input blocks. -/
module

public import proofs.«01_k».proof.Proof.Values

@[expose] public section

set_option maxRecDepth 16384

noncomputable section

namespace Cert.KernelIdeal.Vectors

open Idealize.ShloMosaic Idealize.ShloMosaic.TcCoe Idealize.SL.Sem
open Cert.KernelIdeal Cert.KernelIdeal.Gen Cert.Ranking Cert.Cell

/-- Chunk `k` of sixteen, under an index into the block, is among the first `n` chunks stored, and they hold nothing else. -/
theorem mem_pieces {F : FTy → Type} [FloatOps F] (f : ℕ → FVec F S1x64x256 .f32) (q : View.Piece (Elt F) S1x64x4096 .f32) (n : ℕ) :
    q ∈ pieces f n ↔ ∃ k < n, q = ⟨rect k, f k⟩ := by
  induction n with
  | zero => simp [pieces]
  | succ n ih =>
    simp only [pieces, List.mem_cons, ih]
    constructor
    · rintro (h | ⟨k, hk, h⟩)
      · exact ⟨n, by omega, h⟩
      · exact ⟨k, by omega, h⟩
    · rintro ⟨k, hk, h⟩
      rcases Nat.lt_succ_iff_lt_or_eq.mp hk with h' | rfl
      · exact Or.inr ⟨k, h', h⟩
      · exact Or.inl h

/-- Where an entry of chunk `k` lies in the block. -/
theorem rect_emb (k : ℕ) (z : Fin 1) (o : Fin 64) (q : Fin 256) :
    (rect k).emb (ix3 z o q) = (ix3 0 o (spot k q) : S1x64x4096.Idx) := by
  obtain rfl : z = 0 := Subsingleton.elim _ _
  funext a
  refine Fin.ext ?_
  rw [Rect.emb_apply]
  match a with
  | ⟨0, _⟩ => rfl
  | ⟨1, _⟩ => show 0 + 1 * o.val = o.val; omega
  | ⟨2, _⟩ => show 256 * (k % 16) + 1 * q.val = 256 * (k % 16) + q.val; omega

/-- Sixteen chunks that agree with one function of the block's index make up that function. -/
theorem canon_pieces (f : ℕ → FVec Ideal S1x64x256 .f32) (G : Fin 64 → Fin 4096 → EReal)
    (hf : ∀ k o q, f k (ix3 0 o q) = G o (spot k q)) (o : Fin 64) (p : Fin 4096) :
    (View.canon (pieces f 16) : Vec Ideal S1x64x4096 .f32) (ix3 0 o p) = G o p := by
  refine View.canon_apply_of_pieces (Val := Elt Ideal) (fun y => G (y 1) (y 2)) (pieces f 16) ?_ (ix3 0 o p) ?_
  · intro q hq x
    obtain ⟨k, -, rfl⟩ := (mem_pieces f q 16).mp hq
    idx_vars x
    rw [rect_emb, Subsingleton.elim x0 0]
    exact hf k x1 x2
  · refine ⟨⟨rect (p.val / 256), f (p.val / 256)⟩, (mem_pieces f _ 16).mpr ⟨_, by omega, rfl⟩, ?_⟩
    have e : (ix3 0 o p : S1x64x4096.Idx) = (rect (p.val / 256)).emb (ix3 0 o ⟨p.val % 256, by omega⟩) := by
      rw [rect_emb]
      congr 1
      refine Fin.ext ?_
      show p.val = 256 * (p.val / 256 % 16) + p.val % 256
      omega
    rw [e]
    exact (rect (p.val / 256)).idx_mem _

section values
variable (x0 x1 : Vec Ideal S1x64x4096 .f32) (x2 : Vec Ideal S1x33 .f32) (x3 x4 x5 : Vec Ideal S1x1 .f32)

/-- The rows of a block. -/
abbrev rows (x : Vec Ideal S1x64x4096 .f32) : Fin 64 → Fin 4096 → EReal := fun c p => x (ix3 0 c p)

/-- The first block, as a matrix. -/
theorem h_at (c : Fin 64) (p : Fin 4096) : k0_pay723 x0 x1 x2 x3 x4 x5 (ix2 c p) = rows x0 c p := by
  pointwise [k0_pay723, k0_pay2]

/-- The second block, as a matrix. -/
theorem l_at (c : Fin 64) (p : Fin 4096) : k0_pay724 x0 x1 x2 x3 x4 x5 (ix2 c p) = rows x1 c p := by
  pointwise [k0_pay724, k0_pay3]

/-- The correlations. -/
theorem corr_at (o c : Fin 64) : k0_pay725 x0 x1 x2 x3 x4 x5 (ix2 o c) = corr (rows x1) (rows x0) o c := by
  pointwise [k0_pay725, k0_pay7]
  exact Finset.sum_congr rfl fun p _ => congrArg₂ (· * ·) (l_at x0 x1 x2 x3 x4 x5 o p) (h_at x0 x1 x2 x3 x4 x5 c p)

/-- The scalars. -/
theorem scalars : k0_pay130 (View.ld x2 r0_1) = x2 (ix2 0 0) ∧ k0_pay4 (View.ld x3 r0_2) = x3 (ix2 0 0)
    ∧ k0_pay5 (View.ld x4 r0_2) = x4 (ix2 0 0) ∧ k0_pay6 (View.ld x5 r0_2) = x5 (ix2 0 0) := by
  refine ⟨?_, ?_, ?_, ?_⟩
  · pointwise [k0_pay130]
  · pointwise [k0_pay4]
  · pointwise [k0_pay5]
  · pointwise [k0_pay6]

/-- The output block at an entry. -/
theorem out_at (o : Fin 64) (p : Fin 4096) : out0_6 x0 x1 x2 x3 x4 x5 (ix3 0 o p)
    = ranked (fun k => x2 (ix2 0 k)) (x3 (ix2 0 0)) (x4 (ix2 0 0)) (x5 (ix2 0 0)) (rows x1) (rows x0) o p := by
  obtain ⟨e0, e1, e2, e3⟩ := scalars x2 x3 x4 x5
  rw [out_eq, e0, e1, e2, e3]
  refine canon_pieces _ (ranked (fun k => x2 (ix2 0 k)) (x3 (ix2 0 0)) (x4 (ix2 0 0)) (x5 (ix2 0 0)) (rows x1) (rows x0))
    (fun k o q => ?_) o p
  have er : row (k0_pay725 x0 x1 x2 x3 x4 x5) o = corr (rows x1) (rows x0) o := funext fun c => corr_at x0 x1 x2 x3 x4 x5 o c
  have em : k0_pay734 x0 x1 x2 x3 x4 x5 (ix2 o (spot k q))
      = ∑ c, share (fun k => x2 (ix2 0 k)) (rows x1) (rows x0) o c * rows x0 c (spot k q) := by
    rw [mixed_eq, mixed_at]
    refine Finset.sum_congr rfl fun c _ => ?_
    have ew (k : Fin 33) : View.ld x2 r0_1 (ix2 0 k) = x2 (ix2 0 k) := by pointwise
    rw [weights_rank_at, er, h_at]
    simp only [ew]
    rfl
  have eb (c : Fin 64) : k0_pay733 x0 x1 x2 x3 x4 x5 (ix2 o c)
      = if place (corr (rows x1) (rows x0) o) c < 32 then (0 : EReal) else ⊥ := by
    rw [bias_eq, bias_at, er]
  rw [chunk_at, l_at, em]
  simp only [h_at, eb]
  rfl

end values

end Cert.KernelIdeal.Vectors

end
-- ==== Proof.Final.lean ====
/- The kernel's result array as a formula in its argument arrays. -/
module

public import proofs.«01_k».proof.Proof.Block
public import Idealize.ShloMosaic.Lib.Pipeline.ValueKit

@[expose] public section

set_option maxRecDepth 16384

noncomputable section

namespace Cert.KernelIdeal.Vectors

open Idealize.ShloMosaic Idealize.ShloMosaic.TcCoe Idealize.SL.Sem
open Idealize.ShloMosaic.Pipeline (Dat)
open Cert.KernelIdeal Cert.KernelIdeal.Gen Cert.Ranking Cert.Cell

variable (m : (ℓ : Loc nD τ sig) → Buf (Elt Ideal) ℓ)

/-- Image `b` of an array, each channel a row of 4096 pixels. -/
def plane (x : FVec Ideal S4x64x64x64 .f32) (b : Fin 4) : Fin 64 → Fin 4096 → EReal :=
  fun c p => x (ix4 b c ⟨p.val / 64, by omega⟩ ⟨p.val % 64, by omega⟩)

/-- The result array, from the argument arrays. -/
def whole (hr lr : FVec Ideal S4x64x64x64 .f32) (w1 : FVec Ideal S1x33 .f32) (b1 : FVec Ideal S1 .f32)
    (w2 : FVec Ideal S1x1 .f32) (b2 : FVec Ideal S1 .f32) : FVec Ideal S4x64x4096 .f32 :=
  fun i => ranked (fun k => w1 (ix2 0 k)) (b1 (ix1 0)) (w2 (ix2 0 0)) (b2 (ix1 0)) (plane lr (i 0)) (plane hr (i 0)) (i 1) (i 2)

/-- The windows' places at every grid point. -/
theorem place_val : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![t.val, 0, 0] :=
  (by decide +kernel : ∀ t : Fin grid0.N, _)

/-- What the first window's array holds when the grid starts. -/
theorem V_v0 (c : Dev nD) : V m c main_call0_v0
    = shapeCast (α := Elt Ideal .f32) S4x64x4096 (m ((c : Thread nD τ).loc main_arg0)) shapeCasts_S4x64x64x64_S4x64x4096 := by
  show StableHlo.after hostOps0 _ (Proc.devRef .tc main_call0_v0) = _
  after_results
  rfl

/-- What the second window's array holds when the grid starts. -/
theorem V_v1 (c : Dev nD) : V m c main_call0_v1
    = shapeCast (α := Elt Ideal .f32) S4x64x4096 (m ((c : Thread nD τ).loc main_arg1)) shapeCasts_S4x64x64x64_S4x64x4096 := by
  show StableHlo.after hostOps0 _ (Proc.devRef .tc main_call0_v1) = _
  after_results
  rfl

/-- What the fourth window's array holds when the grid starts. -/
theorem V_v2 (c : Dev nD) : V m c main_call0_v2
    = shapeCast (α := Elt Ideal .f32) S1x1 (m ((c : Thread nD τ).loc main_arg3)) shapeCasts_S1_S1x1 := by
  show StableHlo.after hostOps0 _ (Proc.devRef .tc main_call0_v2) = _
  after_results
  rfl

/-- What the sixth window's array holds when the grid starts. -/
theorem V_v3 (c : Dev nD) : V m c main_call0_v3
    = shapeCast (α := Elt Ideal .f32) S1x1 (m ((c : Thread nD τ).loc main_arg5)) shapeCasts_S1_S1x1 := by
  show StableHlo.after hostOps0 _ (Proc.devRef .tc main_call0_v3) = _
  after_results
  rfl

/-- A reshaped image array at an entry. -/
theorem plane_at (x : FVec Ideal S4x64x64x64 .f32) (b : Fin 4) (c : Fin 64) (p : Fin 4096) :
    shapeCast (α := Elt Ideal .f32) S4x64x4096 x shapeCasts_S4x64x64x64_S4x64x4096 (ix3 b c p) = plane x b c p := by
  unfold plane
  pointwise

/-- A reshaped scalar at its entry. -/
theorem unit_at (x : FVec Ideal S1 .f32) :
    shapeCast (α := Elt Ideal .f32) S1x1 x shapeCasts_S1_S1x1 (ix2 0 0) = x (ix1 0) := by
  pointwise

/-- What point `t` stores at an entry of its block is the result array's entry there. -/
theorem point (c : Dev nD) (t : Fin cfg0.N) (y : S1x64x4096.Idx) :
    out0_6 (iblk m c 0 t) (iblk m c 1 t) (iblk m c 2 t) (iblk m c 3 t) (iblk m c 4 t) (iblk m c 5 t) y
      = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb y) := by
  idx_vars y
  have hw (k : Fin 33) : iblk m c 2 t (ix2 0 k) = m ((c : Thread nD τ).loc main_arg2) (ix2 0 k) := by
    blk_point [iblk, V, place_val t]
  have hb1 : iblk m c 3 t (ix2 0 0) = m ((c : Thread nD τ).loc main_arg3) (ix1 0) := by
    refine Eq.trans (b := V m c main_call0_v2 (ix2 0 0)) ?_ ((congrFun (V_v2 m c) _).trans (unit_at _))
    blk_point [iblk, V, place_val t]
  have hw2 : iblk m c 4 t (ix2 0 0) = m ((c : Thread nD τ).loc main_arg4) (ix2 0 0) := by
    blk_point [iblk, V, place_val t]
  have hb2 : iblk m c 5 t (ix2 0 0) = m ((c : Thread nD τ).loc main_arg5) (ix1 0) := by
    refine Eq.trans (b := V m c main_call0_v3 (ix2 0 0)) ?_ ((congrFun (V_v3 m c) _).trans (unit_at _))
    blk_point [iblk, V, place_val t]
  have hh (c' : Fin 64) (p : Fin 4096) : iblk m c 0 t (ix3 0 c' p) = plane (m ((c : Thread nD τ).loc main_arg0)) t c' p := by
    refine Eq.trans (b := V m c main_call0_v0 (ix3 t c' p)) ?_ ((congrFun (V_v0 m c) _).trans (plane_at _ _ _ _))
    blk_point [iblk, V, place_val t]
  have hl (c' : Fin 64) (p : Fin 4096) : iblk m c 1 t (ix3 0 c' p) = plane (m ((c : Thread nD τ).loc main_arg1)) t c' p := by
    refine Eq.trans (b := V m c main_call0_v1 (ix3 t c' p)) ?_ ((congrFun (V_v1 m c) _).trans (plane_at _ _ _ _))
    blk_point [iblk, V, place_val t]
  have he : ((cfg0.win 6).blk t).view.emb (ix3 y0 y1 y2) = (ix3 t y1 y2 : S4x64x4096.Idx) := by
    blk_ext [place_val t]
  rw [he, Subsingleton.elim y0 0]
  refine (out_at _ _ _ _ _ _ y1 y2).trans ?_
  have eh : rows (iblk m c 0 t) = plane (m ((c : Thread nD τ).loc main_arg0)) t := funext fun c' => funext fun p => hh c' p
  have el : rows (iblk m c 1 t) = plane (m ((c : Thread nD τ).loc main_arg1)) t := funext fun c' => funext fun p => hl c' p
  simp only [eh, el, hw, hb1, hw2, hb2]
  rfl

/-- The result array after the run. -/
theorem final (c : Dev nD) : (dats m 0 c).arrAt 6 (cfgs 0).N
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  exact point m c t y

end Cert.KernelIdeal.Vectors

end
-- ==== Proof.Chosen.lean ====
/- The reference's rows taken at the greatest correlations, read at an entry over the extended reals. -/
module

public import proofs.«01_k».proof.Proof.Gen.ReferenceIdeal
public import proofs.«01_k».proof.Proof.Cell
public import Idealize.ShloMosaic.Lib.Pointwise
public import Idealize.ShloMosaic.Lib.IdealHost
public import Idealize.ShloMosaic.Lib.WordCmp

@[expose] public section

set_option maxRecDepth 16384

noncomputable section

namespace Cert.ReferenceIdeal.Chosen

open Idealize.ShloMosaic Idealize.ShloMosaic.TcCoe Idealize.SL.Sem
open Cert.ReferenceIdeal Cert.ReferenceIdeal.Gen Cert.Ranking Cert.Cell

/-- The correlations of every row of `lr` with every row of `hr`. -/
def cor (hr lr : FVec Ideal S4x64x64x64 .f32) : FVec Ideal S4x64x64 .f32 :=
  Host.dotGeneral (F := Ideal) (φ₁ := .f32) (φ₂ := .f32) dot_S4x64x4096_S4x4096x64_S4x64x64_2_1_1_2_0_0 none
    (shapeCast (α := Elt Ideal .f32) S4x64x4096 lr shapeCasts_S4x64x64x64_S4x64x4096)
    (transpose (α := Elt Ideal .f32) S4x4096x64 [0, 2, 1] (shapeCast (α := Elt Ideal .f32) S4x64x4096 hr shapeCasts_S4x64x64x64_S4x64x4096)
      transposes_S4x64x4096_S4x4096x64_0_2_1)

/-- The positions of the 32 greatest of each row. -/
def order (x : FVec Ideal S4x64x64 .f32) : IVec S4x64x32 32 :=
  (Host.topK S4x64x32 2 (FloatOps.cmpfTotal .gt) x sliceFits_S4x64x64_S4x64x32).2

/-- The positions, a negative one counted from the end. -/
def starts (i : IVec S4x64x32 32) : IVec S4x64x32x1 32 :=
  broadcastInDim S4x64x32x1 ![0, 1, 2] bcast_S4x64x32_S4x64x32x1_0_1_2
    (select (cmpi .slt i (broadcastInDim S4x64x32 ![] bcast_S_S4x64x32 (constantI S_ 32 0#32)))
      (addi i (broadcastInDim S4x64x32 ![] bcast_S_S4x64x32 (constantI S_ 32 64#32))) i)

/-- The rows of `hr` at the positions. -/
def taken (hr : FVec Ideal S4x64x64x64 .f32) (s : IVec S4x64x32x1 32) : FVec Ideal S4x64x32x64x64 .f32 :=
  Host.gather gather_S4x64x64x64_S4x64x32x1_S4x64x32x64x64_34_1_0_0_1_3_116464 hr s

/-- Image `b` of an array, each channel a row of 4096 pixels. -/
def plane (x : FVec Ideal S4x64x64x64 .f32) (b : Fin 4) : Fin 64 → Fin 4096 → EReal :=
  fun c p => x (ix4 b c ⟨p.val / 64, by omega⟩ ⟨p.val % 64, by omega⟩)

/-- A correlation. -/
theorem cor_at (hr lr : FVec Ideal S4x64x64x64 .f32) (b : Fin 4) (o c : Fin 64) :
    cor hr lr (ix3 b o c) = corr (plane lr b) (plane hr b) o c := by
  unfold corr plane
  pointwise [cor]

/-- A position along the last axis of a 4 × 64 × 64 array. -/
theorem along_at (b : Fin 4) (o c k : Fin 64) : Shape.Idx.along (s := S4x64x64) (ix3 b o c) 2 k = ix3 b o k := by
  funext a
  match a with
  | ⟨0, _⟩ => rfl
  | ⟨1, _⟩ => rfl
  | ⟨2, _⟩ => rfl

/-- A truth value as a bit is one exactly when it is true. -/
theorem ofBool_beq (p : Bool) : (BitVec.ofBool p == 1#1) = p := by
  cases p <;> rfl

/-- The indices carried along by a sort of the last axis. -/
theorem sort_at (x : FVec Ideal S4x64x64 .f32) (i : IVec S4x64x64 32) (b : Fin 4) (o c : Fin 64) :
    (Host.sort2 S4x64x64 2 (fun l r => FloatOps.cmpfTotal (F := Ideal) .gt l.1 r.1) x i).2 (ix3 b o c)
      = i (ix3 b o (pick (fun c' => x (ix3 b o c')) c)) := by
  unfold Host.sort2
  rw [dif_pos (show 2 < S4x64x64.rank by decide)]
  show i (Shape.Idx.along (ix3 b o c) _ _) = _
  refine congrArg i ((along_at b o c _).trans (congrArg (ix3 b o) ?_))
  refine congrArg (fun g => sortedFrom (n := 64) g c) (funext fun k => funext fun k' => ?_)
  show (BitVec.ofBool (decide (x (Shape.Idx.along (ix3 b o c) _ k') < x (Shape.Idx.along (ix3 b o c) _ k))) == 1#1)
    = decide (x (ix3 b o k') < x (ix3 b o k))
  rw [show Shape.Idx.along (s := S4x64x64) (ix3 b o c) _ k' = ix3 b o k' from along_at b o c k',
    show Shape.Idx.along (s := S4x64x64) (ix3 b o c) _ k = ix3 b o k from along_at b o c k]
  exact ofBool_beq _

/-- The position at rank `r` is the picked one. -/
theorem order_at (x : FVec Ideal S4x64x64 .f32) (b : Fin 4) (o : Fin 64) (r : Fin 32) :
    order x (ix3 b o r) = BitVec.ofNat 32 (pick (fun c => x (ix3 b o c)) (r.castLE (by omega))).val := by
  pointwise [order, Host.topK]
  refine (sort_at x _ b o _).trans ?_
  rfl

/-- A small number read as a signed 32-bit word is itself. -/
theorem toInt_small (n : ℕ) (hn : n < 64) : (BitVec.ofNat 32 n).toInt = n := by
  rw [BitVec.toInt_eq_toNat_of_lt] <;> simp <;> omega

/-- A position below 64 is taken as it is. -/
theorem starts_at (i : IVec S4x64x32 32) (b : Fin 4) (o : Fin 64) (r : Fin 32) (n : ℕ) (hn : n < 64)
    (h : i (ix3 b o r) = BitVec.ofNat 32 n) (z : Fin 1) : starts i (ix4 b o r z) = BitVec.ofNat 32 n := by
  pointwise [starts, h]
  have e : IntOp.cmpi CmpIPredicate.slt (BitVec.ofNat 32 n) 0#32 = 0#1 := by
    rw [WordCmp.cmpi_slt_eq, toInt_small n hn, decide_eq_false (by simp)]
    rfl
  rw [e]
  rfl

/-- The gather at an entry, where the position is below 64. -/
theorem taken_at (hr : FVec Ideal S4x64x64x64 .f32) (s : IVec S4x64x32x1 32) (b : Fin 4) (o : Fin 64) (r : Fin 32) (y x : Fin 64)
    (n : Fin 64) (h : s (ix4 b o r 0) = BitVec.ofNat 32 n.val) : taken hr s (ix5 b o r y x) = hr (ix4 b n y x) := by
  unfold taken Host.gather
  congr 1
  funext a
  refine Fin.ext ?_
  show GatherDims.start _ _ s a + GatherDims.batchCoord _ _ a + GatherDims.offCoord _ _ a = _
  match a with
  | ⟨0, _⟩ => exact Nat.zero_add b.val
  | ⟨2, _⟩ => exact Nat.zero_add _
  | ⟨3, _⟩ => exact Nat.zero_add _
  | ⟨1, _⟩ =>
    have hs : GatherDims.siIdx gather_S4x64x64x64_S4x64x32x1_S4x64x32x64x64_34_1_0_0_1_3_116464 (ix5 b o r y x) ⟨0, by decide⟩
        = ix4 b o r 0 := by
      funext e
      refine Fin.ext ?_
      match e with
      | ⟨0, _⟩ => rfl
      | ⟨1, _⟩ => rfl
      | ⟨2, _⟩ => rfl
      | ⟨3, _⟩ => rfl
    show min (s (GatherDims.siIdx gather_S4x64x64x64_S4x64x32x1_S4x64x32x64x64_34_1_0_0_1_3_116464 (ix5 b o r y x)
      ⟨0, by decide⟩)).toInt.toNat 63 = n.val
    rw [hs, h, toInt_small _ n.isLt]
    have := n.isLt
    omega

/-- The rows taken at the greatest correlations: row `r` is the picked row. -/
theorem rows_at (hr lr : FVec Ideal S4x64x64x64 .f32) (b : Fin 4) (o : Fin 64) (r : Fin 32) (y x : Fin 64) :
    taken hr (starts (order (cor hr lr))) (ix5 b o r y x) = hr (ix4 b (top (plane lr b) (plane hr b) o r) y x) := by
  refine taken_at hr _ b o r y x _ (starts_at _ b o r _ (Fin.isLt _) ?_ 0)
  rw [order_at]
  refine congrArg (fun g => BitVec.ofNat 32 (pick g (r.castLE _)).val) (funext fun c => ?_)
  exact cor_at hr lr b o c

end Cert.ReferenceIdeal.Chosen

end
-- ==== Proof.Reference.lean ====
/- The reference's result as a formula in its argument arrays. -/
module

public import proofs.«01_k».proof.Proof.Chosen
public import proofs.«01_k».proof.Proof.Gen.ReferenceIdeal.Run

@[expose] public section

set_option maxRecDepth 16384

noncomputable section

namespace Cert.ReferenceIdeal.Chosen

open Idealize.ShloMosaic Idealize.ShloMosaic.TcCoe Idealize.SL.Sem
open Cert.ReferenceIdeal Cert.ReferenceIdeal.Gen Cert.Ranking Cert.Cell

/-- The greatest of the rows `g`. -/
def greatest (g : FVec Ideal S4x64x32x64x64 .f32) : FVec Ideal S4x64x64x64 .f32 :=
  Host.reduce FloatOps.maximumf g (constant S_ .f32 0xFF800000#32) reducesTo_S4x64x32x64x64_S4x64x64x64_d2 h_S_

/-- The sigmoid of an array. -/
def sigmoid (v : FVec Ideal S4x64x1x64x64 .f32) : FVec Ideal S4x64x1x64x64 .f32 :=
  Host.divf (broadcastInDim S4x64x1x64x64 ![] bcast_S_S4x64x1x64x64 (constant S_ .f32 0x3F800000#32))
    (addf (broadcastInDim S4x64x1x64x64 ![] bcast_S_S4x64x1x64x64 (constant S_ .f32 0x3F800000#32)) (Host.exp (Host.negf v)))

/-- The sigmoid of the greatest of the rows `g`. -/
def gate (g : FVec Ideal S4x64x32x64x64 .f32) : FVec Ideal S4x64x1x64x64 .f32 :=
  sigmoid (broadcastInDim S4x64x1x64x64 ![0, 1, 3, 4] bcast_S4x64x64x64_S4x64x1x64x64_0_1_3_4 (greatest g))

/-- A scalar over the whole array. -/
def spread (b : FVec Ideal S1 .f32) : FVec Ideal S4x64x1x64x64 .f32 :=
  broadcastInDim S4x64x1x64x64 ![0, 1, 2, 3, 4] bcast_S1x1x1x1x1_S4x64x1x64x64_0_1_2_3_4
    (broadcastInDim S1x1x1x1x1 ![1, 2, 3, 4] bcast_S1x1x1x1_S1x1x1x1x1_1_2_3_4
      (shapeCast (α := Elt Ideal .f32) S1x1x1x1 b shapeCasts_S1_S1x1x1x1))

/-- The first convolution, over a row of `lr` and the 32 rows `g`. -/
def first (w1 : FVec Ideal S1x33 .f32) (b1 : FVec Ideal S1 .f32) (lr : FVec Ideal S4x64x64x64 .f32)
    (g : FVec Ideal S4x64x32x64x64 .f32) : FVec Ideal S4x64x1x64x64 .f32 :=
  addf (transpose (α := Elt Ideal .f32) S4x64x1x64x64 [1, 2, 0, 3, 4]
      (Host.dotGeneral (F := Ideal) (φ₁ := .f32) (φ₂ := .f32) dot_S1x33_S4x64x33x64x64_S1x4x64x64x64_1_2_0_0134_n_n none w1
        (concatenate S4x64x33x64x64 2
          [⟨S4x64x1x64x64, broadcastInDim S4x64x1x64x64 ![0, 1, 3, 4] bcast_S4x64x64x64_S4x64x1x64x64_0_1_3_4 lr⟩,
            ⟨S4x64x32x64x64, g⟩] concatenates_S4x64x1x64x64_S4x64x32x64x64_S4x64x33x64x64_d2))
      transposes_S1x4x64x64x64_S4x64x1x64x64_1_2_0_3_4) (spread b1)

/-- The second convolution, over the rectified first. -/
def second (w2 : FVec Ideal S1x1 .f32) (b2 : FVec Ideal S1 .f32) (v : FVec Ideal S4x64x1x64x64 .f32) :
    FVec Ideal S4x64x1x64x64 .f32 :=
  addf (transpose (α := Elt Ideal .f32) S4x64x1x64x64 [1, 2, 0, 3, 4]
      (Host.dotGeneral (F := Ideal) (φ₁ := .f32) (φ₂ := .f32) dot_S1x1_S4x64x1x64x64_S1x4x64x64x64_1_2_0_0134_n_n none w2
        (select (cmpf .oge v (broadcastInDim S4x64x1x64x64 ![] bcast_S_S4x64x1x64x64 (constant S_ .f32 0x00000000#32))) v
          (mulf (broadcastInDim S4x64x1x64x64 ![] bcast_S_S4x64x1x64x64 (id (constant S_ .f32 0x3DCCCCCD#32))) v)))
      transposes_S1x4x64x64x64_S4x64x1x64x64_1_2_0_3_4) (spread b2)

/-- The reference's result, from the rows `g` taken. -/
def result (w1 : FVec Ideal S1x33 .f32) (b1 : FVec Ideal S1 .f32) (w2 : FVec Ideal S1x1 .f32) (b2 : FVec Ideal S1 .f32)
    (lr : FVec Ideal S4x64x64x64 .f32) (g : FVec Ideal S4x64x32x64x64 .f32) : FVec Ideal S4x64x64x64 .f32 :=
  shapeCast (α := Elt Ideal .f32) S4x64x64x64
    (addf (second w2 b2 (first w1 b1 lr g)) (mulf (gate g) (second w2 b2 (first w1 b1 lr g))))
    shapeCasts_S4x64x1x64x64_S4x64x64x64

/-- The reference's composed result is `result` of its arguments. -/
theorem res_eq (m : (ℓ : Loc nD τ sig) → Buf (Elt Ideal) ℓ) (c : Dev nD) :
    Cert.ReferenceIdeal.Value.res_out0 m c
      = result (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg1))
          (taken (m ((c.tc : Thread nD τ).loc main_arg0))
            (starts (order (cor (m ((c.tc : Thread nD τ).loc main_arg0)) (m ((c.tc : Thread nD τ).loc main_arg1)))))) := rfl

/-- The greatest row at an entry. -/
theorem greatest_at (g : FVec Ideal S4x64x32x64x64 .f32) (b : Fin 4) (o y x : Fin 64) :
    greatest g (ix4 b o y x) = Finset.univ.sup fun r : Fin 32 => g (ix5 b o r y x) := by
  have e : Ideal.ofBits .f32 0xFF800000#32 = ⊥ := by simp [Ideal.ofBits, Ideal.ieee]
  pointwise [greatest]
  rw [e]
  exact fold_max_eq_sup _ _

/-- The sigmoid at an entry. -/
theorem sigmoid_at (v : FVec Ideal S4x64x1x64x64 .f32) (b : Fin 4) (o : Fin 64) (z : Fin 1) (y x : Fin 64) :
    sigmoid v (ix5 b o z y x) = Ideal.logistic (v (ix5 b o z y x)) := by
  pointwise [sigmoid]
  rfl

/-- The gate at an entry. -/
theorem gate_at (g : FVec Ideal S4x64x32x64x64 .f32) (b : Fin 4) (o : Fin 64) (z : Fin 1) (y x : Fin 64) :
    gate g (ix5 b o z y x) = Ideal.logistic (Finset.univ.sup fun r : Fin 32 => g (ix5 b o r y x)) := by
  rw [← greatest_at g b o y x]
  refine (sigmoid_at _ b o z y x).trans (congrArg Ideal.logistic ?_)
  pointwise

/-- The first convolution at an entry. -/
theorem first_at (w1 : FVec Ideal S1x33 .f32) (b1 : FVec Ideal S1 .f32) (lr : FVec Ideal S4x64x64x64 .f32)
    (g : FVec Ideal S4x64x32x64x64 .f32) (b : Fin 4) (o : Fin 64) (z : Fin 1) (y x : Fin 64) :
    first w1 b1 lr g (ix5 b o z y x)
      = w1 (ix2 0 0) * lr (ix4 b o y x) + ∑ r : Fin 32, w1 (ix2 0 r.succ) * g (ix5 b o r y x) + b1 (ix1 0) := by
  have e (r : Fin 32) (h : 1 + r.val < 33) : (⟨1 + r.val, h⟩ : Fin 33) = r.succ := Fin.ext (Nat.add_comm _ _)
  pointwise [first, spread]
  simp only [e, Fin.sum_univ_one]

/-- The second convolution at an entry. -/
theorem second_at (w2 : FVec Ideal S1x1 .f32) (b2 : FVec Ideal S1 .f32) (v : FVec Ideal S4x64x1x64x64 .f32)
    (b : Fin 4) (o : Fin 64) (z : Fin 1) (y x : Fin 64) :
    second w2 b2 v (ix5 b o z y x) = w2 (ix2 0 0) * leaky (v (ix5 b o 0 y x)) + b2 (ix1 0) := by
  pointwise [second, spread]
  rw [Fin.sum_univ_one]
  rfl

/-- The last product and sum at an entry, the unit axis dropped. -/
theorem blend_at (s g : FVec Ideal S4x64x1x64x64 .f32) (b : Fin 4) (o y x : Fin 64) :
    shapeCast (α := Elt Ideal .f32) S4x64x64x64 (addf s (mulf g s)) shapeCasts_S4x64x1x64x64_S4x64x64x64 (ix4 b o y x)
      = s (ix5 b o 0 y x) + g (ix5 b o 0 y x) * s (ix5 b o 0 y x) := by
  pointwise

/-- The reference's result at an entry. -/
theorem result_at (w1 : FVec Ideal S1x33 .f32) (b1 : FVec Ideal S1 .f32) (w2 : FVec Ideal S1x1 .f32) (b2 : FVec Ideal S1 .f32)
    (hr lr : FVec Ideal S4x64x64x64 .f32) (b : Fin 4) (o y x : Fin 64) :
    result w1 b1 w2 b2 lr (taken hr (starts (order (cor hr lr)))) (ix4 b o y x)
      = picked (fun k => w1 (ix2 0 k)) (b1 (ix1 0)) (w2 (ix2 0 0)) (b2 (ix1 0)) (plane lr b) (plane hr b) o
          ⟨64 * y.val + x.val, by omega⟩ := by
  have ep (v : FVec Ideal S4x64x64x64 .f32) (c : Fin 64) : v (ix4 b c y x) = plane v b c ⟨64 * y.val + x.val, by omega⟩ := by
    unfold plane
    refine congrArg₂ (fun i j => v (ix4 b c i j)) (Fin.ext ?_) (Fin.ext ?_)
    · show y.val = (64 * y.val + x.val) / 64; omega
    · show x.val = (64 * y.val + x.val) % 64; omega
  have ef : first w1 b1 lr (taken hr (starts (order (cor hr lr)))) (ix5 b o 0 y x)
      = w1 (ix2 0 0) * plane lr b o ⟨64 * y.val + x.val, by omega⟩
        + ∑ r : Fin 32, w1 (ix2 0 r.succ) * plane hr b (top (plane lr b) (plane hr b) o r) ⟨64 * y.val + x.val, by omega⟩
        + b1 (ix1 0) := by
    rw [first_at]
    simp only [rows_at, ep]
  have eg : gate (taken hr (starts (order (cor hr lr)))) (ix5 b o 0 y x)
      = Ideal.logistic (Finset.univ.sup fun r : Fin 32 =>
          plane hr b (top (plane lr b) (plane hr b) o r) ⟨64 * y.val + x.val, by omega⟩) := by
    rw [gate_at]
    simp only [rows_at, ep]
  have en := second_at w2 b2 (first w1 b1 lr (taken hr (starts (order (cor hr lr))))) b o 0 y x
  rw [ef] at en
  rw [result, blend_at, en, eg, picked]

end Cert.ReferenceIdeal.Chosen

end
-- ==== Proof.Equal.lean ====
/- The kernel's result array and the reference's are one. -/
module

public import proofs.«01_k».proof.Proof.Final
public import proofs.«01_k».proof.Proof.Reference

@[expose] public section

set_option maxRecDepth 16384

noncomputable section

namespace Cert.Equal

open Idealize.ShloMosaic Idealize.ShloMosaic.TcCoe Idealize.SL.Sem

/-- The kernel's result array at an entry, its pixels unrolled. -/
theorem unrolled_at (v : FVec Ideal Cert.KernelIdeal.S4x64x4096 .f32) (b : Fin 4) (o y x : Fin 64) :
    shapeCast (α := Elt Ideal .f32) Cert.KernelIdeal.S4x64x64x64 v Cert.KernelIdeal.Gen.shapeCasts_S4x64x4096_S4x64x64x64 (ix4 b o y x)
      = v (ix3 b o ⟨64 * y.val + x.val, by omega⟩) := by
  have e (h : y.val * 64 + x.val < 4096) (h' : 64 * y.val + x.val < 4096) :
      (⟨y.val * 64 + x.val, h⟩ : Fin 4096) = ⟨64 * y.val + x.val, h'⟩ := Fin.ext (congrArg (· + x.val) (Nat.mul_comm _ _))
  pointwise
  rw [e]

/-- The kernel's result is the reference's. -/
theorem equal (hr lr : FVec Ideal Cert.KernelIdeal.S4x64x64x64 .f32) (w1 : FVec Ideal Cert.KernelIdeal.S1x33 .f32)
    (b1 : FVec Ideal Cert.KernelIdeal.S1 .f32) (w2 : FVec Ideal Cert.KernelIdeal.S1x1 .f32) (b2 : FVec Ideal Cert.KernelIdeal.S1 .f32) :
    (shapeCast (α := Elt Ideal .f32) Cert.KernelIdeal.S4x64x64x64 (Cert.KernelIdeal.Vectors.whole hr lr w1 b1 w2 b2)
        Cert.KernelIdeal.Gen.shapeCasts_S4x64x4096_S4x64x64x64 : FVec Ideal Cert.KernelIdeal.S4x64x64x64 .f32)
      = Cert.ReferenceIdeal.Chosen.result w1 b1 w2 b2 lr (Cert.ReferenceIdeal.Chosen.taken hr (Cert.ReferenceIdeal.Chosen.starts
          (Cert.ReferenceIdeal.Chosen.order (Cert.ReferenceIdeal.Chosen.cor hr lr)))) := by
  funext i
  idx_vars i
  refine (unrolled_at _ i0 i1 i2 i3).trans (Eq.trans ?_ (Cert.ReferenceIdeal.Chosen.result_at w1 b1 w2 b2 hr lr i0 i1 i2 i3).symm)
  exact Cert.Cell.ranked_eq_picked _ _ _ _ _ _ _ _

end Cert.Equal

end
-- ==== Proof.Result.lean ====
/- What the kernel's result buffer holds at the end of its run. -/
module

public import proofs.«01_k».proof.Proof.Equal

@[expose] public section

set_option maxRecDepth 16384

noncomputable section

namespace Cert.KernelIdeal.Vectors

open Idealize.ShloMosaic Idealize.ShloMosaic.TcCoe Idealize.SL.Sem
open Cert.KernelIdeal Cert.KernelIdeal.Gen

variable (m : (ℓ : Loc nD τ sig) → Buf (Elt Ideal) ℓ)

/-- The line after the region unrolls the pixels of the region's result array into the rows and columns of the image. -/
theorem unrolled (c : Dev nD) : Pipeline.afterTail₀ cfgs (dats m) 0 (V0 m) [hostOps1] c main_v0
    = shapeCast (α := Elt Ideal .f32) S4x64x64x64 ((dats m 0 c).arrAt 6 (cfgs 0).N) shapeCasts_S4x64x4096_S4x64x64x64 := by
  have h := Pipeline.withArrays_arr (τ := τ) (cfgs 0).spec (by decide) c (V0 m c) (fun w => (dats m 0 c).arrAt w (cfgs 0).N) 6
  show StableHlo.after hostOps1 _ (Proc.devRef .tc main_v0) = _
  after_results
  exact congrArg (fun v => shapeCast (α := Elt Ideal .f32) S4x64x64x64 v shapeCasts_S4x64x4096_S4x64x64x64) h

/-- The kernel's result buffer ends at the reference's mathematics of the arguments. -/
theorem ends (c : Dev nD) : Pipeline.afterTail₀ cfgs (dats m) 0 (V0 m) [hostOps1] c main_v0
    = Cert.ReferenceIdeal.Chosen.result (m ((c : Thread nD τ).loc main_arg2)) (m ((c : Thread nD τ).loc main_arg3))
        (m ((c : Thread nD τ).loc main_arg4)) (m ((c : Thread nD τ).loc main_arg5)) (m ((c : Thread nD τ).loc main_arg1))
        (Cert.ReferenceIdeal.Chosen.taken (m ((c : Thread nD τ).loc main_arg0)) (Cert.ReferenceIdeal.Chosen.starts
          (Cert.ReferenceIdeal.Chosen.order (Cert.ReferenceIdeal.Chosen.cor (m ((c : Thread nD τ).loc main_arg0))
            (m ((c : Thread nD τ).loc main_arg1)))))) :=
  (unrolled m c).trans ((congrArg (fun v => shapeCast (α := Elt Ideal .f32) S4x64x64x64 v shapeCasts_S4x64x4096_S4x64x64x64)
    (final m c)).trans (Cert.Equal.equal _ _ _ _ _ _))

end Cert.KernelIdeal.Vectors

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Adequacy
public import Idealize.ShloMosaic.Init

@[expose] public section

noncomputable section

namespace Cert.Proof

open Idealize.ShloMosaic Idealize.SL.Sem Cert.Kernel

/-- The program as printed runs to completion with its arguments unchanged; so does it with the mask named; so does the
    reference. Naming the mask changes no operation. The named program's result is the reference's. -/
theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => (θ_run Cert.ReferenceIdeal.defs _ _).mono
    (fun r h => ⟨fun c => (h c).2, Idealize.ShloMosaic.sem_eq_zero_of_no_sems (by decide) r.2⟩)
    (Cert.ReferenceIdeal.Value.run m g),
  IdealRules.named_const.statement Cert.KernelIdeal.κ "mask" .f32 0xF149F2CA#32 ⊥ rfl,
  fun m g m' g' _ hagree => by
    refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v0, ?_, ?_⟩
    · exact θ_run_mono (θ_run_and (Cert.KernelIdeal.Gen.run_main m g) (Cert.KernelIdeal.Gen.unchanged m g))
        fun _ h c => ⟨(h.1 c).2 _ (by decide), h.2 c⟩
    · refine θ_run_mono (Cert.ReferenceIdeal.Value.run m' g')
        fun _ h c => ⟨(h c).1.trans ((Cert.ReferenceIdeal.Chosen.res_eq m' c).trans
          (Eq.trans ?_ (Cert.KernelIdeal.Vectors.ends m c).symm)), (h c).2⟩
      obtain ⟨h0, h1, h2, h3, h4, h5⟩ := hagree c
      rw [h0, h1, h2, h3, h4, h5]⟩

end Cert.Proof

end
